-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_combine_weights [hPre_combine_weights : Cert.Pre_combine_weights.Facts] (m : (ℓ : Loc Cert.KernelIdeal.nD Cert.KernelIdeal.τ Cert.KernelIdeal.sig) → Buf (Elt Ideal) ℓ) : Prop :=
  ∀ c : Dev Cert.KernelIdeal.nD,
    (Cert.Pre_combine_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_combine_weights [hPre_combine_weights : Cert.Pre_combine_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_combine_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_combine_weights [hKernelIdeal : Cert.KernelIdeal.Facts] [hPre_combine_weights : Cert.Pre_combine_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_combine_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_combine_weights [hReferenceIdeal : Cert.ReferenceIdeal.Facts] [hPre_combine_weights : Cert.Pre_combine_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_combine_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17))
      ∧ r.2.sem = fun _ => 0)

def preserves_Kernel_KernelIdeal : Prop :=
  True

def algebraic_KernelIdeal_ReferenceIdeal_pre_combine_weights [hKernelIdeal : Cert.KernelIdeal.Facts] [hReferenceIdeal : Cert.ReferenceIdeal.Facts] [hPre_combine_weights : Cert.Pre_combine_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_combine_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mixer_MixerIdeal : Prop :=
  True

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hPre_combine_weights : Cert.Pre_combine_weights.Facts),
    quiescent_Kernel (hKernel := hKernel)
    ∧ quiescent_KernelIdeal (hKernelIdeal := hKernelIdeal)
    ∧ quiescent_KernelIdeal_pre_combine_weights (hKernelIdeal := hKernelIdeal) (hPre_combine_weights := hPre_combine_weights)
    ∧ quiescent_ReferenceIdeal (hReferenceIdeal := hReferenceIdeal)
    ∧ quiescent_ReferenceIdeal_pre_combine_weights (hReferenceIdeal := hReferenceIdeal) (hPre_combine_weights := hPre_combine_weights)
    ∧ quiescent_Mixer (hMixer := hMixer)
    ∧ quiescent_MixerIdeal (hMixerIdeal := hMixerIdeal)
    ∧ preserves_Kernel_KernelIdeal
    ∧ algebraic_KernelIdeal_ReferenceIdeal_pre_combine_weights (hKernelIdeal := hKernelIdeal) (hReferenceIdeal := hReferenceIdeal) (hPre_combine_weights := hPre_combine_weights)
    ∧ preserves_Mixer_MixerIdeal
-- ==== Pre_combine_weights.lean ====
abbrev S32768x1024 : Shape := ⟨2, ![32768, 1024]⟩
abbrev S32768x128 : Shape := ⟨2, ![32768, 128]⟩
abbrev S1x16x1024x512 : Shape := ⟨4, ![1, 16, 1024, 512]⟩
abbrev S1x16x512x1024 : Shape := ⟨4, ![1, 16, 512, 1024]⟩
abbrev S1024 : Shape := ⟨1, ![1024]⟩
abbrev S32768x16 : Shape := ⟨2, ![32768, 16]⟩
abbrev S_ : Shape := ⟨0, ![]⟩

class Facts : Prop where
  slices_S32768x128_S32768x16_0_4 : S32768x128.Slices ![0, 4] S32768x16
  bcast_S_S32768x16 : S_.BroadcastsInDim S32768x16 (![] : Fin 0 → Fin S32768x16.rank)
  reducesTo_S32768x16_S_d0_1 : S32768x16.ReducesTo [0, 1] S_
  h_S_ : 0 < S_.numel

variable [Facts]

def fn {F : FTy → Type} [FloatOps F] (main_arg0 : FVec F S32768x1024 .f32) (main_arg1 : FVec F S32768x1024 .f32) (main_arg2 : FVec F S32768x128 .f32) (main_arg3 : FVec F S1x16x1024x512 .f32) (main_arg4 : FVec F S1x16x1024x512 .f32) (main_arg5 : FVec F S1x16x512x1024 .f32) (main_arg6 : FVec F S1024 .f32) : IVec S_ 1 :=
  let main_v0 : FVec F S32768x16 .f32 := (extractStridedSlice S32768x16 ![0, 4] · slices_S32768x128_S32768x16_0_4) main_arg2
  let main_cst : FVec F S_ .f32 := constant S_ .f32 0x00000000#32
  let main_v1 : FVec F S32768x16 .f32 := broadcastInDim S32768x16 ![] bcast_S_S32768x16 main_cst
  let main_v2 : IVec S32768x16 1 := cmpf .oge main_v0 main_v1
  let main_cst_0 : FVec F S_ .f32 := constant S_ .f32 0x7F800000#32
  let main_v3 : FVec F S32768x16 .f32 := broadcastInDim S32768x16 ![] bcast_S_S32768x16 main_cst_0
  let main_v4 : IVec S32768x16 1 := cmpf .olt main_v0 main_v3
  let main_v5 : IVec S32768x16 1 := andi main_v2 main_v4
  let main_c : IVec S_ 1 := constantI S_ 1 1#1
  let main_v6 : IVec S_ 1 := (fun x v => Host.reduce IntOp.andi x v reducesTo_S32768x16_S_d0_1 h_S_) main_v5 main_c
  main_v6
-- ==== Kernel.lean ====
abbrev S32768x1024 : Shape := ⟨2, ![32768, 1024]⟩
abbrev S32768x128 : Shape := ⟨2, ![32768, 128]⟩
abbrev S1x16x1024x512 : Shape := ⟨4, ![1, 16, 1024, 512]⟩
abbrev S1x16x512x1024 : Shape := ⟨4, ![1, 16, 512, 1024]⟩
abbrev S1024 : Shape := ⟨1, ![1024]⟩
abbrev S16x1024x512 : Shape := ⟨3, ![16, 1024, 512]⟩
abbrev S16x512x1024 : Shape := ⟨3, ![16, 512, 1024]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 16
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x128, .f32⟩
  | .hbm, ⟨3, _⟩ => ⟨S1x16x1024x512, .f32⟩
  | .hbm, ⟨4, _⟩ => ⟨S1x16x1024x512, .f32⟩
  | .hbm, ⟨5, _⟩ => ⟨S1x16x512x1024, .f32⟩
  | .hbm, ⟨6, _⟩ => ⟨S1024, .f32⟩
  | .hbm, ⟨7, _⟩ => ⟨S32768x1024, .bf16⟩
  | .hbm, ⟨8, _⟩ => ⟨S16x1024x512, .f32⟩
  | .hbm, ⟨9, _⟩ => ⟨S16x1024x512, .bf16⟩
  | .hbm, ⟨10, _⟩ => ⟨S16x1024x512, .f32⟩
  | .hbm, ⟨11, _⟩ => ⟨S16x1024x512, .bf16⟩
  | .hbm, ⟨12, _⟩ => ⟨S16x512x1024, .f32⟩
  | .hbm, ⟨13, _⟩ => ⟨S16x512x1024, .bf16⟩
  | .hbm, ⟨14, _⟩ => ⟨S1x1024, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S32768x1024 : Shape := ⟨2, ![32768, 1024]⟩
abbrev S32768x128 : Shape := ⟨2, ![32768, 128]⟩
abbrev S1x16x1024x512 : Shape := ⟨4, ![1, 16, 1024, 512]⟩
abbrev S1x16x512x1024 : Shape := ⟨4, ![1, 16, 512, 1024]⟩
abbrev S1024 : Shape := ⟨1, ![1024]⟩
abbrev S32768x16 : Shape := ⟨2, ![32768, 16]⟩
abbrev S16x1024x512 : Shape := ⟨3, ![16, 1024, 512]⟩
abbrev S16x512x32768 : Shape := ⟨3, ![16, 512, 32768]⟩
abbrev S16x32768x512 : Shape := ⟨3, ![16, 32768, 512]⟩
abbrev S_ : Shape := ⟨0, ![]⟩
abbrev S16x32768 : Shape := ⟨2, ![16, 32768]⟩
abbrev S16x32768x1 : Shape := ⟨3, ![16, 32768, 1]⟩
abbrev S16x512x1024 : Shape := ⟨3, ![16, 512, 1024]⟩
abbrev S16x32768x1024 : Shape := ⟨3, ![16, 32768, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x128, .f32⟩
  | .hbm, ⟨3, _⟩ => ⟨S1x16x1024x512, .f32⟩
  | .hbm, ⟨4, _⟩ => ⟨S1x16x1024x512, .f32⟩
  | .hbm, ⟨5, _⟩ => ⟨S1x16x512x1024, .f32⟩
  | .hbm, ⟨6, _⟩ => ⟨S1024, .f32⟩
  | .hbm, ⟨7, _⟩ => ⟨S32768x16, .f32⟩
  | .hbm, ⟨8, _⟩ => ⟨S16x1024x512, .f32⟩
  | .hbm, ⟨9, _⟩ => ⟨S16x512x32768, .f32⟩
  | .hbm, ⟨10, _⟩ => ⟨S16x32768x512, .f32⟩
  | .hbm, ⟨11, _⟩ => ⟨S16x32768x512, .f32⟩
  | .hbm, ⟨12, _⟩ => ⟨S16x32768x512, .f32⟩
  | .hbm, ⟨13, _⟩ => ⟨S_, .f32⟩
  | .hbm, ⟨14, _⟩ => ⟨S16x32768x512, .f32⟩
  | .hbm, ⟨15, _⟩ => ⟨S16x32768x512, .f32⟩
  | .hbm, ⟨16, _⟩ => ⟨S_, .f32⟩
  | .hbm, ⟨17, _⟩ => ⟨S16x32768x512, .f32⟩
  | .hbm, ⟨18, _⟩ => ⟨S16x32768x512, .f32⟩
  | .hbm, ⟨19, _⟩ => ⟨S16x32768x512, .f32⟩
  | .hbm, ⟨20, _⟩ => ⟨S16x1024x512, .f32⟩
  | .hbm, ⟨21, _⟩ => ⟨S16x512x32768, .f32⟩
  | .hbm, ⟨22, _⟩ => ⟨S16x32768x512, .f32⟩
  | .hbm, ⟨23, _⟩ => ⟨S16x32768x512, .f32⟩
  | .hbm, ⟨24, _⟩ => ⟨S16x32768, .f32⟩
  | .hbm, ⟨25, _⟩ => ⟨S16x32768x1, .f32⟩
  | .hbm, ⟨26, _⟩ => ⟨S16x512x1024, .f32⟩
  | .hbm, ⟨27, _⟩ => ⟨S16x32768x1024, .f32⟩
  | .hbm, ⟨28, _⟩ => ⟨S16x32768x1024, .f32⟩
  | .hbm, ⟨29, _⟩ => ⟨S16x32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Mixer.lean ====
abbrev S8x4096x1024 : Shape := ⟨3, ![8, 4096, 1024]⟩
abbrev S16x1024 : Shape := ⟨2, ![16, 1024]⟩
abbrev S1x1024 : Shape := ⟨2, ![1, 1024]⟩
abbrev S1x1024x6160 : Shape := ⟨3, ![1, 1024, 6160]⟩
abbrev S1x4x2048 : Shape := ⟨3, ![1, 4, 2048]⟩
abbrev S1x2048 : Shape := ⟨2, ![1, 2048]⟩
abbrev S1x16 : Shape := ⟨2, ![1, 16]⟩
abbrev S1x3x1024 : Shape := ⟨3, ![1, 3, 1024]⟩
abbrev S1x2048x1024 : Shape := ⟨3, ![1, 2048, 1024]⟩
abbrev S1x1024x4 : Shape := ⟨3, ![1, 1024, 4]⟩
abbrev S1x4 : Shape := ⟨2, ![1, 4]⟩
abbrev S1x1024x16 : Shape := ⟨3, ![1, 1024, 16]⟩
abbrev S1024x6160 : Shape := ⟨2, ![1024, 6160]⟩
abbrev S1024x3072 : Shape := ⟨2, ![1024, 3072]⟩
abbrev S1024x6144 : Shape := ⟨2, ![1024, 6144]⟩
abbrev S1024x16 : Shape := ⟨2, ![1024, 16]⟩
abbrev S_ : Shape := ⟨0, ![]⟩
abbrev S1024x128 : Shape := ⟨2, ![1024, 128]⟩
abbrev S1024x4 : Shape := ⟨2, ![1024, 4]⟩
abbrev S1024x20 : Shape := ⟨2, ![1024, 20]⟩
abbrev S4 : Shape := ⟨1, ![4]⟩
abbrev S16 : Shape := ⟨1, ![16]⟩
abbrev S20 : Shape := ⟨1, ![20]⟩
abbrev S1x20 : Shape := ⟨2, ![1, 20]⟩
abbrev S1x128 : Shape := ⟨2, ![1, 128]⟩
abbrev S240x1024 : Shape := ⟨2, ![240, 1024]⟩
abbrev S256x1024 : Shape := ⟨2, ![256, 1024]⟩
abbrev S128 : Shape := ⟨1, ![128]⟩
abbrev S128x1 : Shape := ⟨2, ![128, 1]⟩
abbrev S128x128 : Shape := ⟨2, ![128, 128]⟩
abbrev S128x256 : Shape := ⟨2, ![128, 256]⟩
abbrev S1024 : Shape := ⟨1, ![1024]⟩
abbrev S128x1024 : Shape := ⟨2, ![128, 1024]⟩
abbrev S2048 : Shape := ⟨1, ![2048]⟩
abbrev S128x2048 : Shape := ⟨2, ![128, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S4x2048 : Shape := ⟨2, ![4, 2048]⟩
abbrev S16x64 : Shape := ⟨2, ![16, 64]⟩
abbrev S3x1024 : Shape := ⟨2, ![3, 1024]⟩
abbrev S2048x1024 : Shape := ⟨2, ![2048, 1024]⟩
abbrev S8x4096x128 : Shape := ⟨3, ![8, 4096, 128]⟩
abbrev S1x256x1024 : Shape := ⟨3, ![1, 256, 1024]⟩
abbrev S1x256x128 : Shape := ⟨3, ![1, 256, 128]⟩
abbrev S256x6144 : Shape := ⟨2, ![256, 6144]⟩
abbrev S264x2048 : Shape := ⟨2, ![264, 2048]⟩
abbrev S264x1024 : Shape := ⟨2, ![264, 1024]⟩
abbrev S256x512 : Shape := ⟨2, ![256, 512]⟩
abbrev S256x128 : Shape := ⟨2, ![256, 128]⟩
abbrev S4x128x256 : Shape := ⟨3, ![4, 128, 256]⟩
abbrev S8x2048 : Shape := ⟨2, ![8, 2048]⟩
abbrev S8x1024 : Shape := ⟨2, ![8, 1024]⟩
abbrev S1024x1024 : Shape := ⟨2, ![1024, 1024]⟩
abbrev S1x128x256 : Shape := ⟨3, ![1, 128, 256]⟩

abbrev nBuf : Space → Nat
  | .hbm => 169
  | .vmem => 40
  | .smem => 0
  | _ => 0

abbrev hbmTy0_0 (i : Nat) : BufTy := match i % 128 with
  | 0 => ⟨S8x4096x1024, .f32⟩
  | 1 => ⟨S16x1024, .f32⟩
  | 2 => ⟨S1x1024, .f32⟩
  | 3 => ⟨S1x1024x6160, .f32⟩
  | 4 => ⟨S1x4x2048, .f32⟩
  | 5 => ⟨S1x2048, .f32⟩
  | 6 => ⟨S1x16, .f32⟩
  | 7 => ⟨S1x16, .f32⟩
  | 8 => ⟨S1x16, .f32⟩
  | 9 => ⟨S1x1024, .f32⟩
  | 10 => ⟨S1x3x1024, .f32⟩
  | 11 => ⟨S1x1024, .f32⟩
  | 12 => ⟨S1x2048x1024, .f32⟩
  | 13 => ⟨S1x1024, .f32⟩
  | 14 => ⟨S1x1024x4, .f32⟩
  | 15 => ⟨S1x4, .f32⟩
  | 16 => ⟨S1x1024x16, .f32⟩
  | 17 => ⟨S1x16, .f32⟩
  | 18 => ⟨S1024x6160, .f32⟩
  | 19 => ⟨S1024x3072, .f32⟩
  | 20 => ⟨S1024x3072, .f32⟩
  | 21 => ⟨S1024x6144, .f32⟩
  | 22 => ⟨S1024x6144, .bf16⟩
  | 23 => ⟨S1024x16, .f32⟩
  | 24 => ⟨S_, .i32⟩
  | 25 => ⟨S_, .f32⟩
  | 26 => ⟨S1024x128, .f32⟩
  | 27 => ⟨S1024x128, .bf16⟩
  | 28 => ⟨S1024x128, .f32⟩
  | 29 => ⟨S1024x128, .f32⟩
  | 30 => ⟨S1024x128, .bf16⟩
  | 31 => ⟨S1024x4, .f32⟩
  | 32 => ⟨S1024x16, .f32⟩
  | 33 => ⟨S1024x20, .f32⟩
  | 34 => ⟨S_, .i32⟩
  | 35 => ⟨S_, .f32⟩
  | 36 => ⟨S1024x128, .f32⟩
  | 37 => ⟨S1024x128, .bf16⟩
  | 38 => ⟨S1024x128, .f32⟩
  | 39 => ⟨S1024x128, .f32⟩
  | 40 => ⟨S1024x128, .bf16⟩
  | 41 => ⟨S4, .f32⟩
  | 42 => ⟨S16, .f32⟩
  | 43 => ⟨S20, .f32⟩
  | 44 => ⟨S1x20, .f32⟩
  | 45 => ⟨S_, .i32⟩
  | 46 => ⟨S_, .f32⟩
  | 47 => ⟨S1x128, .f32⟩
  | 48 => ⟨S_, .f32⟩
  | 49 => ⟨S240x1024, .f32⟩
  | 50 => ⟨S256x1024, .f32⟩
  | 51 => ⟨S128, .i32⟩
  | 52 => ⟨S128x1, .i32⟩
  | 53 => ⟨S1x128, .i32⟩
  | 54 => ⟨S128x128, .i32⟩
  | 55 => ⟨S128x128, .i32⟩
  | 56 => ⟨S128x128, .i1⟩
  | 57 => ⟨S128x128, .bf16⟩
  | 58 => ⟨S128x256, .bf16⟩
  | 59 => ⟨S128, .i32⟩
  | 60 => ⟨S128x1, .i32⟩
  | 61 => ⟨S1024, .i32⟩
  | 62 => ⟨S1x1024, .i32⟩
  | 63 => ⟨S_, .i32⟩
  | 64 => ⟨S_, .i32⟩
  | 65 => ⟨S1x1024, .i32⟩
  | 66 => ⟨S1x1024, .i32⟩
  | 67 => ⟨S1x1024, .i32⟩
  | 68 => ⟨S_, .i32⟩
  | 69 => ⟨S1x1024, .i32⟩
  | 70 => ⟨S1x1024, .i1⟩
  | 71 => ⟨S1x1024, .i32⟩
  | 72 => ⟨S1x1024, .i32⟩
  | 73 => ⟨S_, .i32⟩
  | 74 => ⟨S1x1024, .i32⟩
  | 75 => ⟨S1x1024, .i1⟩
  | 76 => ⟨S1x1024, .i1⟩
  | 77 => ⟨S_, .i32⟩
  | 78 => ⟨S1x1024, .i32⟩
  | 79 => ⟨S1x1024, .i32⟩
  | 80 => ⟨S1x1024, .i32⟩
  | 81 => ⟨S128x1024, .i32⟩
  | 82 => ⟨S128x1024, .i32⟩
  | 83 => ⟨S128x1024, .i1⟩
  | 84 => ⟨S128x1024, .bf16⟩
  | 85 => ⟨S2048, .i32⟩
  | 86 => ⟨S1x2048, .i32⟩
  | 87 => ⟨S_, .i32⟩
  | 88 => ⟨S_, .i32⟩
  | 89 => ⟨S1x2048, .i32⟩
  | 90 => ⟨S1x2048, .i32⟩
  | 91 => ⟨S1x2048, .i32⟩
  | 92 => ⟨S_, .i32⟩
  | 93 => ⟨S1x2048, .i32⟩
  | 94 => ⟨S1x2048, .i1⟩
  | 95 => ⟨S1x2048, .i32⟩
  | 96 => ⟨S1x2048, .i32⟩
  | 97 => ⟨S_, .i32⟩
  | 98 => ⟨S1x2048, .i32⟩
  | 99 => ⟨S1x2048, .i1⟩
  | 100 => ⟨S1x2048, .i1⟩
  | 101 => ⟨S_, .i32⟩
  | 102 => ⟨S1x2048, .i32⟩
  | 103 => ⟨S1x2048, .i32⟩
  | 104 => ⟨S1x2048, .i32⟩
  | 105 => ⟨S128x2048, .i32⟩
  | 106 => ⟨S128x2048, .i32⟩
  | 107 => ⟨S128x2048, .i1⟩
  | 108 => ⟨S128x2048, .bf16⟩
  | 109 => ⟨S256x1024, .bf16⟩
  | 110 => ⟨S256x2048, .bf16⟩
  | 111 => ⟨S_, .bf16⟩
  | 112 => ⟨S256x256, .bf16⟩
  | 113 => ⟨S256, .i32⟩
  | 114 => ⟨S_, .i32⟩
  | 115 => ⟨S_, .i32⟩
  | 116 => ⟨S256, .i32⟩
  | 117 => ⟨S256, .i32⟩
  | 118 => ⟨S256, .i32⟩
  | 119 => ⟨S_, .i32⟩
  | 120 => ⟨S256, .i32⟩
  | 121 => ⟨S256, .i1⟩
  | 122 => ⟨S256, .i32⟩
  | 123 => ⟨S256, .i32⟩
  | 124 => ⟨S_, .i32⟩
  | 125 => ⟨S256, .i32⟩
  | 126 => ⟨S256, .i1⟩
  | 127 => ⟨S256, .i1⟩
  | _ => ⟨S8x4096x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S1x256, .i32⟩
  | 6 => ⟨S256x256, .i32⟩
  | 7 => ⟨S256x256, .i32⟩
  | 8 => ⟨S256x256, .i1⟩
  | 9 => ⟨S256x256, .bf16⟩
  | 10 => ⟨S1024, .f32⟩
  | 11 => ⟨S1x1024, .f32⟩
  | 12 => ⟨S4x2048, .f32⟩
  | 13 => ⟨S2048, .f32⟩
  | 14 => ⟨S1x2048, .f32⟩
  | 15 => ⟨S16, .f32⟩
  | 16 => ⟨S1x16, .f32⟩
  | 17 => ⟨S_, .i32⟩
  | 18 => ⟨S_, .f32⟩
  | 19 => ⟨S1x128, .f32⟩
  | 20 => ⟨S16, .f32⟩
  | 21 => ⟨S1x16, .f32⟩
  | 22 => ⟨S_, .i32⟩
  | 23 => ⟨S_, .f32⟩
  | 24 => ⟨S1x128, .f32⟩
  | 25 => ⟨S16, .f32⟩
  | 26 => ⟨S16x64, .f32⟩
  | 27 => ⟨S1024, .f32⟩
  | 28 => ⟨S1x1024, .f32⟩
  | 29 => ⟨S1024, .f32⟩
  | 30 => ⟨S1x1024, .f32⟩
  | 31 => ⟨S3x1024, .f32⟩
  | 32 => ⟨S1024, .f32⟩
  | 33 => ⟨S1x1024, .f32⟩
  | 34 => ⟨S2048x1024, .f32⟩
  | 35 => ⟨S2048x1024, .bf16⟩
  | 36 => ⟨S1024, .f32⟩
  | 37 => ⟨S1x1024, .f32⟩
  | 38 => ⟨S8x4096x1024, .f32⟩
  | 39 => ⟨S8x4096x1024, .bf16⟩
  | 40 => ⟨S8x4096x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S1x1024, .f32⟩
  | .local _ .vmem, ⟨4, _⟩ => ⟨S1024x6144, .bf16⟩
  | .local _ .vmem, ⟨5, _⟩ => ⟨S1024x128, .bf16⟩
  | .local _ .vmem, ⟨6, _⟩ => ⟨S1024x128, .bf16⟩
  | .local _ .vmem, ⟨7, _⟩ => ⟨S4x2048, .f32⟩
  | .local _ .vmem, ⟨8, _⟩ => ⟨S1x2048, .f32⟩
  | .local _ .vmem, ⟨9, _⟩ => ⟨S1x128, .f32⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S3x1024, .f32⟩
  | .local _ .vmem, ⟨14, _⟩ => ⟨S1x1024, .f32⟩
  | .local _ .vmem, ⟨15, _⟩ => ⟨S2048x1024, .bf16⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S1x128, .f32⟩
  | .local _ .vmem, ⟨20, _⟩ => ⟨S128x256, .bf16⟩
  | .local _ .vmem, ⟨21, _⟩ => ⟨S256x1024, .bf16⟩
  | .local _ .vmem, ⟨22, _⟩ => ⟨S256x2048, .bf16⟩
  | .local _ .vmem, ⟨23, _⟩ => ⟨S256x256, .bf16⟩
  | .local _ .vmem, ⟨24, _⟩ => ⟨S256x256, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x256x128, .f32⟩
  | .local _ .vmem, ⟨30, _⟩ => ⟨S1x256x128, .f32⟩
  | .local _ .vmem, ⟨31, _⟩ => ⟨S256x6144, .f32⟩
  | .local _ .vmem, ⟨32, _⟩ => ⟨S264x2048, .f32⟩
  | .local _ .vmem, ⟨33, _⟩ => ⟨S264x1024, .f32⟩
  | .local _ .vmem, ⟨34, _⟩ => ⟨S256x1024, .f32⟩
  | .local _ .vmem, ⟨35, _⟩ => ⟨S256x512, .f32⟩
  | .local _ .vmem, ⟨36, _⟩ => ⟨S256x512, .f32⟩
  | .local _ .vmem, ⟨37, _⟩ => ⟨S256x128, .f32⟩
  | .local _ .vmem, ⟨38, _⟩ => ⟨S256x2048, .bf16⟩
  | .local _ .vmem, ⟨39, _⟩ => ⟨S4x128x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_call1_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_1 : Ref sig .tc := ⟨.hbm, 45, rfl⟩
abbrev main_call2_v0 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_2 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_3 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_4 : Ref sig .tc := ⟨.hbm, 111, rfl⟩
abbrev main_v52 : Ref sig .tc := ⟨.hbm, 112, rfl⟩
abbrev main_v53 : Ref sig .tc := ⟨.hbm, 113, rfl⟩
abbrev main_c_5 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_c : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_0 : Ref sig .tc := ⟨.hbm, 128, rfl⟩
abbrev main_call5_v12 : Ref sig .tc := ⟨.hbm, 129, rfl⟩
abbrev main_call5_v13 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_c_6 : Ref sig .tc := ⟨.hbm, 145, rfl⟩
abbrev main_call6_v0 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_c_7 : Ref sig .tc := ⟨.hbm, 150, rfl⟩
abbrev main_call7_v0 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85_0 : Ref sig .tc := ⟨.hbm, 166, rfl⟩
abbrev main_v85_1 : Ref sig .tc := ⟨.hbm, 167, rfl⟩
abbrev main_v85_2 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28
abbrev cc0_sem26_0 : DmaSem sig := 29
abbrev cc0_sem26_1 : DmaSem sig := 30

abbrev nD : Nat := 1
abbrev τ : Topo := Topo.v7x

variable {F : FTy → Type} [FloatOps F]

abbrev grid0 : Pipeline.Grid := ⟨2, ![8, 17], ![false, false]⟩

@[reducible] def k0_t1_loop : Scf.Loop 32 :=
  let c0_i32_222 : BitVec 32 := 0#32
  let c2_i32 : BitVec 32 := 2#32
  let v410 : BitVec 32 := Scalar.addi c0_i32_222 c2_i32
  let c1_i32 : BitVec 32 := 1#32
  ⟨c0_i32_222, v410, c1_i32⟩
def k0_mult1 (k0_t1 : Fin k0_t1_loop.trips) : BitVec 32 :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  v722
def k0_off1 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v724 : Index := Scalar.indexCast v723
  let c0_388 : Index := 0#32
  ![v724.toNat, 0]
def k0_off2 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v761 : Index := Scalar.indexCast v723
  let c0_398 : Index := 0#32
  ![v761.toNat, 0]
def k0_off3 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v765 : Index := Scalar.indexCast v723
  let c0_399 : Index := 0#32
  ![v765.toNat, 0]
def k0_off4 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v855 : Index := Scalar.indexCast v723
  let c0_422 : Index := 0#32
  ![v855.toNat, 0]
def k0_off5 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v880 : Index := Scalar.indexCast v723
  let c0_432 : Index := 0#32
  ![v880.toNat, 0]
def k0_off6 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v892 : Index := Scalar.indexCast v723
  let c256_433 : Index := 256#32
  ![v892.toNat, 256]
def k0_off7 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v896 : Index := Scalar.indexCast v723
  let c128 : Index := 128#32
  ![v896.toNat, 128]
def k0_off8 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v986 : Index := Scalar.indexCast v723
  let c256_456 : Index := 256#32
  ![v986.toNat, 256]
def k0_off9 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1011 : Index := Scalar.indexCast v723
  let c256_466 : Index := 256#32
  ![v1011.toNat, 256]
def k0_off10 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1023 : Index := Scalar.indexCast v723
  let c512_467 : Index := 512#32
  ![v1023.toNat, 512]
def k0_off11 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1027 : Index := Scalar.indexCast v723
  let c256_468 : Index := 256#32
  ![v1027.toNat, 256]
def k0_off12 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1117 : Index := Scalar.indexCast v723
  let c512_491 : Index := 512#32
  ![v1117.toNat, 512]
def k0_off13 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1142 : Index := Scalar.indexCast v723
  let c512_501 : Index := 512#32
  ![v1142.toNat, 512]
def k0_off14 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1154 : Index := Scalar.indexCast v723
  let c768_502 : Index := 768#32
  ![v1154.toNat, 768]
def k0_off15 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1158 : Index := Scalar.indexCast v723
  let c384 : Index := 384#32
  ![v1158.toNat, 384]
def k0_off16 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1248 : Index := Scalar.indexCast v723
  let c768_525 : Index := 768#32
  ![v1248.toNat, 768]
def k0_off17 (k0_t1 : Fin k0_t1_loop.trips) : Fin 2 → Nat :=
  let c0_i32_222 : BitVec 32 := 0#32
  let c1_i32 : BitVec 32 := 1#32
  let arg38 : BitVec 32 := Scf.iv c0_i32_222 c1_i32 k0_t1
  let c128_i32 : BitVec 32 := 128#32
  let v722 : BitVec 32 := Scalar.muli arg38 c128_i32
  let v723 : BitVec 32 := v722
  let v1273 : Index := Scalar.indexCast v723
  let c768_535 : Index := 768#32
  ![v1273.toNat, 768]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_25 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_26 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Proof.MixerIdealBody.lean ====
/-
  The mixer call of `MixerIdeal` runs: the frame of one grid point and of the launch. Each of the 136 grid points runs
  the kernel's body once over its 27 windows and its nine scratch buffers. Nothing is said of what the body leaves in
  any of them: every window and every scratch buffer is held at some contents before and after. That is all the frame
  claim needs, since a frame claim reads the argument arrays only, and the body writes no argument array.
-/
module

public import proofs.«01_k».proof.Proof.Gen.MixerIdeal.Frame
public import proofs.«01_k».proof.Proof.Gen.MixerIdeal.Skeleton
public import proofs.«01_k».proof.Proof.Gen.MixerIdeal.Loops
public import Idealize.ShloMosaic.Lib.Pipeline.Frame
public import Idealize.ShloMosaic.Lib.Tactic

@[expose] public section

set_option maxRecDepth 65536

noncomputable section

namespace Cert.MixerIdeal.Body

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

/-- The resource algebra the launch's rules are stated at. -/
local notation "𝕄" => MT nD τ sig Unit (Elt F) ℕ (UR sig nD τ) ℕ

/-- The grid point is the first tile of its batch row: there the body clears the buffers it carries from tile to tile. -/
abbrev firstTile (i : grid0.Coords) : Prop :=
  Scalar.cmpi .ne (Scalar.extui (Scalar.cmpi .eq (BitVec.ofNat 32 (i 1).val) 0#32) : BitVec 32) 0#32 = 1#1

/-- A whole operand held at some contents. -/
abbrev held (c : Dev nD) {sp : Space} {S : Shape} {e : EltTy} (M : Memref sig .tc sp S e) : sProp 𝕄 :=
  iprop(∃ d, owns (c : Thread nD τ) M fullShare d)

/-- A buffer held at known contents is held at some. -/
theorem held_of (c : Dev nD) {sp : Space} {S : Shape} {e : EltTy} (M : Memref sig .tc sp S e)
    (f : Buf (Elt F) (M.view.loc (c : Thread nD τ))) :
    (M.view.loc (c : Thread nD τ) ↦[M.view.set]{fullShare} f) ⊢ (held c M : sProp 𝕄) := by
  unfold held owns
  iintro H
  iexists _, _; isplitr; swap; · iexact H
  ipureintro; rfl

set_option maxHeartbeats 4000000 in
/-- The body at any grid point: from every operand held at some contents it runs to its end and hands every operand
    back at some contents. At a batch row's first tile it clears what it carries, at the others it does not. -/
theorem run_body (c : Dev nD) (i : grid0.Coords) (arg2 : Memref sig .tc .vmem S1x256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4x2048 .f32) (harg8 : arg8.IsWhole) (arg9 : Memref sig .tc .vmem S1x2048 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S3x1024 .f32) (harg14 : arg14.IsWhole) (arg15 : Memref sig .tc .vmem S1x1024 .f32) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1024x128 .bf16) (harg18 : arg18.IsWhole) (arg19 : Memref sig .tc .vmem S1024x128 .bf16) (harg19 : arg19.IsWhole) (arg20 : Memref sig .tc .vmem S1x128 .f32) (harg20 : arg20.IsWhole) (arg21 : Memref sig .tc .vmem S128x256 .bf16) (harg21 : arg21.IsWhole) (arg22 : Memref sig .tc .vmem S256x1024 .bf16) (harg22 : arg22.IsWhole) (arg23 : Memref sig .tc .vmem S256x2048 .bf16) (harg23 : arg23.IsWhole) (arg24 : Memref sig .tc .vmem S256x256 .bf16) (harg24 : arg24.IsWhole) (arg25 : Memref sig .tc .vmem S256x256 .bf16) (harg25 : arg25.IsWhole) (arg26 : Memref sig .tc .vmem S1x256x1024 .f32) (harg26 : arg26.IsWhole) (arg27 : Memref sig .tc .vmem S1x256x1024 .bf16) (harg27 : arg27.IsWhole) (arg28 : Memref sig .tc .vmem S1x256x128 .f32) (harg28 : arg28.IsWhole) (arg29 : Memref sig .tc .vmem S256x6144 .f32) (harg29 : arg29.IsWhole) (arg30 : Memref sig .tc .vmem S264x2048 .f32) (harg30 : arg30.IsWhole) (arg31 : Memref sig .tc .vmem S264x1024 .f32) (harg31 : arg31.IsWhole) (arg32 : Memref sig .tc .vmem S256x1024 .f32) (harg32 : arg32.IsWhole) (arg33 : Memref sig .tc .vmem S256x512 .f32) (harg33 : arg33.IsWhole) (arg34 : Memref sig .tc .vmem S256x512 .f32) (harg34 : arg34.IsWhole) (arg35 : Memref sig .tc .vmem S256x128 .f32) (harg35 : arg35.IsWhole) (arg36 : Memref sig .tc .vmem S256x2048 .bf16) (harg36 : arg36.IsWhole) (arg37 : Memref sig .tc .vmem S4x128x256 .f32) (harg37 : arg37.IsWhole) (K : PUnit → sProp 𝕄) :
    iprop(held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ held c arg30 ∗ held c arg31 ∗ held c arg32 ∗ held c arg33 ∗ held c arg34 ∗ held c arg35 ∗ held c arg36 ∗ held c arg37
        ∗ (iprop(held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ held c arg19 ∗ held c arg20 ∗ held c arg21 ∗ held c arg22 ∗ held c arg23 ∗ held c arg24 ∗ held c arg25 ∗ held c arg26 ∗ held c arg27 ∗ held c arg28 ∗ held c arg29 ∗ held c arg30 ∗ held c arg31 ∗ held c arg32 ∗ held c arg33 ∗ held c arg34 ∗ held c arg35 ∗ held c arg36 ∗ held c arg37) -∗ K ⟨⟩))
      ⊢ wp frame (wpE (defs₀ (F := F)) Variants.none c none) Set.univ (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0_mixer_eq_skeleton]; unfold cc0_mixer_skel
  by_cases hc : firstTile i
  all_goals
    unfold held owns
    iintro ⟨⟨%darg2, %farg2, -, Harg2⟩, ⟨%darg3, %farg3, -, Harg3⟩, ⟨%darg4, %farg4, -, Harg4⟩, ⟨%darg5, %farg5, -, Harg5⟩, ⟨%darg6, %farg6, -, Harg6⟩, ⟨%darg7, %farg7, -, Harg7⟩, ⟨%darg8, %farg8, -, Harg8⟩, ⟨%darg9, %farg9, -, Harg9⟩, ⟨%darg10, %farg10, -, Harg10⟩, ⟨%darg11, %farg11, -, Harg11⟩, ⟨%darg12, %farg12, -, Harg12⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%darg20, %farg20, -, Harg20⟩, ⟨%darg21, %farg21, -, Harg21⟩, ⟨%darg22, %farg22, -, Harg22⟩, ⟨%darg23, %farg23, -, Harg23⟩, ⟨%darg24, %farg24, -, Harg24⟩, ⟨%darg25, %farg25, -, Harg25⟩, ⟨%darg26, %farg26, -, Harg26⟩, ⟨%darg27, %farg27, -, Harg27⟩, ⟨%darg28, %farg28, -, Harg28⟩, ⟨%darg29, %farg29, -, Harg29⟩, ⟨%darg30, %farg30, -, Harg30⟩, ⟨%darg31, %farg31, -, Harg31⟩, ⟨%darg32, %farg32, -, Harg32⟩, ⟨%darg33, %farg33, -, Harg33⟩, ⟨%darg34, %farg34, -, Harg34⟩, ⟨%darg35, %farg35, -, Harg35⟩, ⟨%darg36, %farg36, -, Harg36⟩, ⟨%darg37, %farg37, -, Harg37⟩, Hk⟩
    sl_exec_parts (disch := sl_exact hc)
    sl_step
    iapply Hk
    isplitl [Harg2]; · iapply (held_of c arg2 _); iexact Harg2
    isplitl [Harg3]; · iapply (held_of c arg3 _); iexact Harg3
    isplitl [Harg4]; · iapply (held_of c arg4 _); iexact Harg4
    isplitl [Harg5]; · iapply (held_of c arg5 _); iexact Harg5
    isplitl [Harg6]; · iapply (held_of c arg6 _); iexact Harg6
    isplitl [Harg7]; · iapply (held_of c arg7 _); iexact Harg7
    isplitl [Harg8]; · iapply (held_of c arg8 _); iexact Harg8
    isplitl [Harg9]; · iapply (held_of c arg9 _); iexact Harg9
    isplitl [Harg10]; · iapply (held_of c arg10 _); iexact Harg10
    isplitl [Harg11]; · iapply (held_of c arg11 _); iexact Harg11
    isplitl [Harg12]; · iapply (held_of c arg12 _); iexact Harg12
    isplitl [Harg13]; · iapply (held_of c arg13 _); iexact Harg13
    isplitl [Harg14]; · iapply (held_of c arg14 _); iexact Harg14
    isplitl [Harg15]; · iapply (held_of c arg15 _); iexact Harg15
    isplitl [Harg16]; · iapply (held_of c arg16 _); iexact Harg16
    isplitl [Harg17]; · iapply (held_of c arg17 _); iexact Harg17
    isplitl [Harg18]; · iapply (held_of c arg18 _); iexact Harg18
    isplitl [Harg19]; · iapply (held_of c arg19 _); iexact Harg19
    isplitl [Harg20]; · iapply (held_of c arg20 _); iexact Harg20
    isplitl [Harg21]; · iapply (held_of c arg21 _); iexact Harg21
    isplitl [Harg22]; · iapply (held_of c arg22 _); iexact Harg22
    isplitl [Harg23]; · iapply (held_of c arg23 _); iexact Harg23
    isplitl [Harg24]; · iapply (held_of c arg24 _); iexact Harg24
    isplitl [Harg25]; · iapply (held_of c arg25 _); iexact Harg25
    isplitl [Harg26]; · iapply (held_of c arg26 _); iexact Harg26
    isplitl [Harg27]; · iapply (held_of c arg27 _); iexact Harg27
    isplitl [Harg28]; · iapply (held_of c arg28 _); iexact Harg28
    isplitl [Harg29]; · iapply (held_of c arg29 _); iexact Harg29
    isplitl [Harg30]; · iapply (held_of c arg30 _); iexact Harg30
    isplitl [Harg31]; · iapply (held_of c arg31 _); iexact Harg31
    isplitl [Harg32]; · iapply (held_of c arg32 _); iexact Harg32
    isplitl [Harg33]; · iapply (held_of c arg33 _); iexact Harg33
    isplitl [Harg34]; · iapply (held_of c arg34 _); iexact Harg34
    isplitl [Harg35]; · iapply (held_of c arg35 _); iexact Harg35
    isplitl [Harg36]; · iapply (held_of c arg36 _); iexact Harg36
    iapply (held_of c arg37 _); iexact Harg37

variable (m : (ℓ : Loc nD τ sig) → Buf (Elt F) ℓ) (ρ : Dev nD → PrngReg)

/-- No window's contents are followed: the frame claim reads none of them after the run. -/
def unread : Fin 27 → Bool := fun _ => true

/-- What is known of the launch on core `c`: each window's array as the host operations leave it, nothing of what the
    body leaves in a window, and between points the scratch buffers at some contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem dats_array (c : Dev nD) (w : Fin cfg0.W) : (dats m 0 c).A w = V m c (Pipeline.arrRef spec0 w) := by
  dsimp only [dats]

/-- What the launch keeps between points: the nine scratch buffers at some contents, and the generator register. -/
theorem between_points (c : Dev nD) :
    (Pipeline.ΦA spec0 c : sProp 𝕄) = iprop((held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8)) ∗ ∃ r, prngReg c r) := by
  rw [Pipeline.ΦA, scopedRest0_eq]; simp only [held, owns_whole]; try rfl

/-- The body's precondition and postcondition at point `t`. -/
def atPoint (c : Dev nD) (t : Fin cfg0.N) (j : Fin (cfg0.N + 1)) : sProp 𝕄 :=
  iprop((dats m 0 c).Φ j ∗ (dats m 0 c).owesAt () j
    ∗ held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (win0_8.stage (cfg0.slots t 8)) ∗ held c (win0_9.stage (cfg0.slots t 9)) ∗ held c (win0_10.stage (cfg0.slots t 10)) ∗ held c (win0_11.stage (cfg0.slots t 11)) ∗ held c (win0_12.stage (cfg0.slots t 12)) ∗ held c (win0_13.stage (cfg0.slots t 13)) ∗ held c (win0_14.stage (cfg0.slots t 14)) ∗ held c (win0_15.stage (cfg0.slots t 15)) ∗ held c (win0_16.stage (cfg0.slots t 16)) ∗ held c (win0_17.stage (cfg0.slots t 17)) ∗ held c (win0_18.stage (cfg0.slots t 18)) ∗ held c (win0_19.stage (cfg0.slots t 19)) ∗ held c (win0_20.stage (cfg0.slots t 20)) ∗ held c (win0_21.stage (cfg0.slots t 21)) ∗ held c (win0_22.stage (cfg0.slots t 22)) ∗ held c (win0_23.stage (cfg0.slots t 23)) ∗ held c (win0_24.stage (cfg0.slots t 24)) ∗ held c (win0_25.stage (cfg0.slots t 25)) ∗ held c (win0_26.stage (cfg0.slots t 26)))

/-- The body at a grid point, over the windows' staging buffers and the scratch buffers of the launch. -/
theorem body_at (c : Dev nD) (t : Fin cfg0.N) :
    atPoint m c t t.castSucc ⊢ wp frame (wpE (defs₀ (F := F)) Variants.none c none) Set.univ (bodyAt0 t) (fun _ => atPoint m c t t.succ) := by
  unfold atPoint bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, between_points]
  iintro ⟨⟨⟨S0, S1, S2, S3, S4, S5, S6, S7, S8⟩, Hg⟩, HO, H0, H1, H2, H3, H4, H5, H6, H7, H8, H9, H10, H11, H12, H13, H14, H15, H16, H17, H18, H19, H20, H21, H22, H23, H24, H25, H26⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, H11, H12, H13, H14, H15, H16, H17, H18, H19, H20, H21, H22, H23, H24, H25, H26, S0, S1, S2, S3, S4, S5, S6, S7, S8⟩
  isplitl [S0 S1 S2 S3 S4 S5 S6 S7 S8 Hg]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The kernel the launch calls at a point is the body there. -/
theorem body_row (t : Fin cfg0.N) : defs₀ (F := F) .tc cfg0.body (cfg0.bodyArgs t (cfg0.slots t)) = bodyAt0 t := by
  unfold defs₀; rw [Defs.onTc_tc]

/-- The body obligation of the launch, no window followed. -/
theorem obligation (c : Dev nD) :
    BodyObligation (dats (F := F) m 0 c) (defs₀ (F := F)) Variants.none () Set.univ unread := fun t => by
  rw [bigSep_W0, bigSep_W0, body_row]
  exact triple_restated (body_at m c t) rfl .rfl fun _ => .rfl

-- the launch rule's implicit arguments are found by unifying its conclusion with this statement, which needs plain
-- definitions unfolded in a metavariable's type
set_option backward.isDefEq.respectTransparency.types false in
/-- The launch: from any memory with zero counters the whole call ends, each window's array and every other buffer as
    the frame rule says, and every counter at zero. -/
theorem run_main :
    θ_run defs (onTc (τ := τ) (main (F := F))) (s₀ m ρ)
      (fun r => Pipeline.RDat.FramePost (cfgs 0) (fun c => (dats m 0 c).toRForget unread) (V m) r ∧ r.2.sem = fun _ => 0) :=
  Pipeline.θ_run_frame_forget (Q' := _) cfgs (dats m) (0 : Fin 1) launch0 defs₀ Variants.none unread m ρ main
    (hbody := fun c => (obligation m c).loose) (hshare := fun c => (dats m 0 c).share_full fun _ => rfl)
    (howed := fun _ _ => rfl) (V := V m) (hmain := hmain m Variants.none) (hA := dats_array m)
    (hΦ := fun _ _ => rfl)

/-- The frame of the call: it ends, its eighteen arguments are as they were, and every counter is zero. The first
    argument is window 0's array, an input, which no write-back reaches; the others are no window's array, and no host
    operation writes them. -/
theorem mixer_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c =>
      have first : r.2.mem ((c.tc : Thread nD τ).loc main_arg0) = m ((c.tc : Thread nD τ).loc main_arg0) := by
        have h0 := (h.1 c).1 0
        rw [Pipeline.RDat.ArrAt_in _ (0 : Fin cfg0.W) rfl] at h0
        exact h0.trans ((dats_array m c 0).trans (V_main_arg0 m c))
      ⟨first,
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_main m ρ)

end Cert.MixerIdeal.Body

end
-- ==== Proof.Payload.lean ====
/- What one grid point of the mixture-of-experts kernel computes, read at an index of its output block. -/
module

public import proofs.«01_k».proof.Proof.Gen.KernelIdeal.Value
public import Idealize.ShloMosaic.Lib.Pipeline.ValueKit

@[expose] public section

set_option maxRecDepth 16384

noncomputable section

namespace Cert.KernelIdeal.Moe

open Cert.KernelIdeal Cert.KernelIdeal.Gen Idealize.ShloMosaic Idealize.ShloMosaic.TcCoe Idealize.SL.Sem

/-- The block the accumulation starts from is kept as it is. -/
theorem start_apply (a : Vec Ideal S1024x1024 .f32) (j : S1024x1024.Idx) : k0_pay4 (F := Ideal) a j = a j := by
  pointwise [k0_pay4]

/-- One expert's step adds the product of its hidden block with its down projection. -/
theorem add_apply (h : FVec Ideal S1024x512 .bf16) (a : FVec Ideal S1024x1024 .f32) (w : Vec Ideal S1x512x1024 .bf16) (j : S1024x1024.Idx) :
    k0_pay1 (F := Ideal) h a w j = a j + ∑ x : Fin 512, h (ix2 (j 0) x) * w (ix3 0 x (j 1)) := by
  pointwise [k0_pay1]

/-- The last expert's step ends with the norm of each row, times the scale. -/
theorem norm_apply (a : Vec Ideal S1024x1024 .f32) (w : Vec Ideal S1x1024 .f32) (j : S1024x1024.Idx) :
    k0_pay2 (F := Ideal) a w j = a j * Ideal.rsqrt (Ideal.div (∑ x : Fin 1024, a (ix2 (j 0) x) * a (ix2 (j 0) x)) (Ideal.ofBits FTy.f32 1149239296#32)
      + Ideal.ofBits FTy.f32 897988541#32) * w (ix2 0 (j 1)) := by
  pointwise [k0_pay2]

/-- Picking the one lane that carries expert `e`'s weight and summing over the lanes leaves that lane's entry. -/
theorem lane_sum (e : Fin 16) (g : Fin 128 → EReal) :
    (∑ x : Fin 128, Scalar.select (IntOp.cmpi CmpIPredicate.eq (BitVec.ofNat 32 x.val) (Scalar.addi (BitVec.ofNat 32 e.val) 4#32)) (g x) 0)
      = g ⟨4 + e.val, by omega⟩ := by
  rw [Finset.sum_eq_single (⟨4 + e.val, by omega⟩ : Fin 128)]
  · have : IntOp.cmpi CmpIPredicate.eq (BitVec.ofNat 32 (4 + e.val)) (Scalar.addi (BitVec.ofNat 32 e.val) 4#32) = 1#1 := by
      revert e; decide
    rw [this]; rfl
  · intro x _ hx
    have key : ∀ (e : Fin 16) (x : Fin 128), x.val ≠ 4 + e.val →
        IntOp.cmpi CmpIPredicate.eq (BitVec.ofNat 32 x.val) (Scalar.addi (BitVec.ofNat 32 e.val) 4#32) = 0#1 := by
      decide +kernel
    rw [key e x fun h => hx (Fin.ext h)]; rfl
  · intro h; exact absurd (Finset.mem_univ _) h

/-- The hidden block of the point's expert: the gated linear unit, weighted by the routing record's entry. -/
theorem hidden_apply (i : grid0.Coords) (u : Vec Ideal S1024x1024 .bf16) (wg wu : Vec Ideal S1x1024x512 .bf16) (cb : Vec Ideal S1024x128 .f32) (j : S1024x512.Idx)
    (e : Fin 16) (he : (i 1).val = e.val) :
    k0_pay3 (F := Ideal) i u wg wu cb j
      = (Ideal.div (∑ x : Fin 1024, u (ix2 (j 0) x) * wg (ix3 0 x (j 1))) (1 + Ideal.exp (0 - ∑ x : Fin 1024, u (ix2 (j 0) x) * wg (ix3 0 x (j 1))))
          * ∑ x : Fin 1024, u (ix2 (j 0) x) * wu (ix3 0 x (j 1))) * cb (ix2 (j 0) ⟨4 + e.val, by omega⟩) := by
  pointwise [k0_pay3]
  rw [he, lane_sum e fun x => cb (ix2 (j 0) x)]

end Cert.KernelIdeal.Moe

end
-- ==== Proof.Blocks.lean ====
/- The input blocks of a grid point, read from the arguments. -/
module

public import proofs.«01_k».proof.Proof.Payload
public import Idealize.ShloMosaic.Lib.Claim

@[expose] public section

set_option maxRecDepth 16384

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ)

/-- Every window's block index at a grid point: the token tile is the point's number over 16, the expert its remainder. -/
theorem idx : ∀ t : Fin cfg0.N, win0_0.index t = ![t.val / 16, 0] ∧ win0_1.index t = ![t.val / 16, 0] ∧ win0_2.index t = ![t.val / 16, 0]
    ∧ win0_3.index t = ![t.val % 16, 0, 0] ∧ win0_4.index t = ![t.val % 16, 0, 0] ∧ win0_5.index t = ![t.val % 16, 0, 0] ∧ win0_6.index t = ![0, 0]
    ∧ t.val / 16 < 32 ∧ (grid0.coords t 1).val = t.val % 16 :=
  (by decide +kernel : ∀ t : Fin grid0.N, _)

theorem blk0 (c : Dev nD) (t : Fin cfg0.N) (a : Fin 1024) (b : Fin 1024) :
    (iblk m c 0 t : FVec Ideal S1024x1024 .f32) (ix2 a b)
      = (m ((c : Thread nD τ).loc main_arg0) : FVec Ideal S32768x1024 .f32) (ix2 ⟨t.val / 16 * 1024 + a.val, by have := (idx t).2.2.2.2.2.2.2.1; omega⟩ b) := by
  blk_ext [iblk, V, idx t]

theorem blk1 (c : Dev nD) (t : Fin cfg0.N) (a : Fin 1024) (b : Fin 1024) :
    (iblk m c 1 t : FVec Ideal S1024x1024 .bf16) (ix2 a b)
      = (m ((c : Thread nD τ).loc main_arg1) : FVec Ideal S32768x1024 .f32) (ix2 ⟨t.val / 16 * 1024 + a.val, by have := (idx t).2.2.2.2.2.2.2.1; omega⟩ b) := by
  blk_point [iblk, V, idx t]

theorem blk2 (c : Dev nD) (t : Fin cfg0.N) (a : Fin 1024) (b : Fin 128) :
    (iblk m c 2 t : FVec Ideal S1024x128 .f32) (ix2 a b)
      = (m ((c : Thread nD τ).loc main_arg2) : FVec Ideal S32768x128 .f32) (ix2 ⟨t.val / 16 * 1024 + a.val, by have := (idx t).2.2.2.2.2.2.2.1; omega⟩ b) := by
  blk_ext [iblk, V, idx t]

theorem blk3 (c : Dev nD) (t : Fin cfg0.N) (a : Fin 1024) (b : Fin 512) :
    (iblk m c 3 t : FVec Ideal S1x1024x512 .bf16) (ix3 0 a b)
      = (m ((c : Thread nD τ).loc main_arg3) : FVec Ideal S1x16x1024x512 .f32) (ix4 0 ⟨t.val % 16, Nat.mod_lt _ (by decide)⟩ a b) := by
  blk_point [iblk, V, idx t]

theorem blk4 (c : Dev nD) (t : Fin cfg0.N) (a : Fin 1024) (b : Fin 512) :
    (iblk m c 4 t : FVec Ideal S1x1024x512 .bf16) (ix3 0 a b)
      = (m ((c : Thread nD τ).loc main_arg4) : FVec Ideal S1x16x1024x512 .f32) (ix4 0 ⟨t.val % 16, Nat.mod_lt _ (by decide)⟩ a b) := by
  blk_point [iblk, V, idx t]

theorem blk5 (c : Dev nD) (t : Fin cfg0.N) (a : Fin 512) (b : Fin 1024) :
    (iblk m c 5 t : FVec Ideal S1x512x1024 .bf16) (ix3 0 a b)
      = (m ((c : Thread nD τ).loc main_arg5) : FVec Ideal S1x16x512x1024 .f32) (ix4 0 ⟨t.val % 16, Nat.mod_lt _ (by decide)⟩ a b) := by
  blk_point [iblk, V, idx t]

theorem blk6 (c : Dev nD) (t : Fin cfg0.N) (b : Fin 1024) :
    (iblk m c 6 t : FVec Ideal S1x1024 .f32) (ix2 0 b) = (m ((c : Thread nD τ).loc main_arg6) : FVec Ideal S1024 .f32) (ix1 b) := by
  blk_point [iblk, V, idx t]

end Cert.KernelIdeal.Moe

end
-- ==== Proof.Fold.lean ====
/- The result array of the mixture-of-experts kernel, index by index: the residual plus the sixteen experts' products,
   each row normed and scaled. The fold over a token tile's sixteen grid points is unrolled to a sum over the experts. -/
module

public import proofs.«01_k».proof.Proof.Blocks

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem

/-- A token's projection by one expert's `[1024, 512]` matrix. -/
def proj (U : FVec Ideal S32768x1024 .f32) (W : FVec Ideal S1x16x1024x512 .f32) (r : Fin 32768) (e : Fin 16) (f : Fin 512) : EReal :=
  ∑ x : Fin 1024, U (ix2 r x) * W (ix4 0 e x f)

/-- An expert's hidden layer for a token: the gated linear unit. -/
def glu (U : FVec Ideal S32768x1024 .f32) (Wg Wu : FVec Ideal S1x16x1024x512 .f32) (r : Fin 32768) (e : Fin 16) (f : Fin 512) : EReal :=
  Ideal.div (proj U Wg r e f) (1 + Ideal.exp (0 - proj U Wg r e f)) * proj U Wu r e f

/-- What the kernel adds for an expert: the hidden layer weighted by the routing record, times the down projection. -/
def addend (U : FVec Ideal S32768x1024 .f32) (C : FVec Ideal S32768x128 .f32) (Wg Wu : FVec Ideal S1x16x1024x512 .f32)
    (Wd : FVec Ideal S1x16x512x1024 .f32) (e : Fin 16) (r : Fin 32768) (k : Fin 1024) : EReal :=
  ∑ f : Fin 512, (glu U Wg Wu r e f * C (ix2 r ⟨4 + e.val, by omega⟩)) * Wd (ix4 0 e f k)

/-- The residual with every expert's addend. -/
def total (H U : FVec Ideal S32768x1024 .f32) (C : FVec Ideal S32768x128 .f32) (Wg Wu : FVec Ideal S1x16x1024x512 .f32)
    (Wd : FVec Ideal S1x16x512x1024 .f32) (r : Fin 32768) (k : Fin 1024) : EReal :=
  H (ix2 r k) + ∑ e : Fin 16, addend U C Wg Wu Wd e r k

/-- A row `y`, normed by its mean square and scaled. -/
def normed (y : Fin 1024 → EReal) (N : FVec Ideal S1024 .f32) (k : Fin 1024) : EReal :=
  y k * Ideal.rsqrt (Ideal.div (∑ x : Fin 1024, y x * y x) (Ideal.ofBits FTy.f32 1149239296#32) + Ideal.ofBits FTy.f32 897988541#32) * N (ix1 k)

/-- A projection read from blocks that hold the token's row and the expert's matrix. -/
theorem proj_read (u : FVec Ideal S1024x1024 .bf16) (w : FVec Ideal S1x1024x512 .bf16) (U : FVec Ideal S32768x1024 .f32) (W : FVec Ideal S1x16x1024x512 .f32)
    (r : Fin 32768) (e : Fin 16) (f : Fin 512) (a : Fin 1024) (hu : ∀ x : Fin 1024, u (ix2 a x) = U (ix2 r x)) (hw : ∀ x : Fin 1024, w (ix3 0 x f) = W (ix4 0 e x f)) :
    (∑ x : Fin 1024, u (ix2 a x) * w (ix3 0 x f)) = proj U W r e f :=
  Finset.sum_congr rfl fun x _ => congrArg₂ (· * ·) (hu x) (hw x)

variable (m : (ℓ : Loc nD τ sig) → Buf (Elt Ideal) ℓ)

/-- The addend of grid point `n`, by its place in the block. -/
def pointAdd (c : Dev nD) (n : ℕ) (y : S1024x1024.Idx) : EReal :=
  if h : n < cfg0.N then
    ∑ x : Fin 512, k0_pay3 (F := Ideal) (grid0.coords ⟨n, h⟩) (iblk m c 1 ⟨n, h⟩) (iblk m c 3 ⟨n, h⟩) (iblk m c 4 ⟨n, h⟩) (iblk m c 2 ⟨n, h⟩) (ix2 (y 0) x)
      * (iblk m c 5 ⟨n, h⟩ : FVec Ideal S1x512x1024 .bf16) (ix3 0 x (y 1))
  else 0

theorem pointAdd_eq (c : Dev nD) (t : Fin cfg0.N) (a : Fin 1024) (k : Fin 1024) :
    pointAdd m c t.val (ix2 a k)
      = addend (m ((c : Thread nD τ).loc main_arg1)) (m ((c : Thread nD τ).loc main_arg2)) (m ((c : Thread nD τ).loc main_arg3))
          (m ((c : Thread nD τ).loc main_arg4)) (m ((c : Thread nD τ).loc main_arg5)) ⟨t.val % 16, Nat.mod_lt _ (by decide)⟩
          ⟨t.val / 16 * 1024 + a.val, by have := (idx t).2.2.2.2.2.2.2.1; omega⟩ k := by
  unfold pointAdd
  rw [dif_pos t.isLt]
  unfold addend glu
  refine Finset.sum_congr rfl fun f _ => ?_
  refine congrArg₂ (· * ·) ((hidden_apply (grid0.coords t) (iblk m c 1 t) (iblk m c 3 t) (iblk m c 4 t) (iblk m c 2 t) (ix2 a f)
    ⟨t.val % 16, Nat.mod_lt _ (by decide)⟩ (idx t).2.2.2.2.2.2.2.2).trans ?_) (blk5 m c t f k)
  refine congrArg₂ (· * ·) ?_ (blk2 m c t a _)
  have sg := proj_read (iblk m c 1 t) (iblk m c 3 t) _ _ _ _ f a (blk1 m c t a) fun x => blk3 m c t x f
  have su := proj_read (iblk m c 1 t) (iblk m c 4 t) _ _ _ _ f a (blk1 m c t a) fun x => blk4 m c t x f
  exact congrArg₂ (· * ·) (congrArg₂ Ideal.div sg (congrArg (fun z => 1 + Ideal.exp (0 - z)) sg)) su

/-- The residual's tile, as the first point reads it. -/
def held (c : Dev nD) (t : Fin cfg0.N) : S1024x1024.Idx → EReal := (iblk m c 0 t : FVec Ideal S1024x1024 .f32)

/-- The step that adds, at a point that is not the tile's last. -/
theorem step_add (c : Dev nD) (n : ℕ) (h : n < cfg0.N) (acc : Vec Ideal S1024x1024 .f32) (y : S1024x1024.Idx) (h0 : ¬n % 16 = 0) (h1 : ¬n % 16 = 15) :
    step7 m c n h acc y = acc y + pointAdd m c n y := by
  unfold step7 pointAdd
  rw [if_pos ⟨h0, h1⟩, dif_pos h, add_apply, start_apply]

/-- The accumulated tile before its last expert. -/
theorem fold_apply (c : Dev nD) (q : ℕ) (h : 16 * q + 14 < cfg0.N) (y : S1024x1024.Idx) :
    Pipeline.accAt (reset7 m c) (step7 m c) (16 * q) 14 h y
      = held m c ⟨16 * q, by omega⟩ y + ∑ s ∈ Finset.range 15, pointAdd m c (16 * q + s) y :=
  Pipeline.accAt_add_apply (β := EReal) (reset7 m c) (step7 m c) (held m c ⟨16 * q, by omega⟩) (pointAdd m c) (16 * q) 14
    (fun h y => by unfold reset7 pointAdd; rw [dif_pos h, add_apply, start_apply]; rfl)
    (fun n h acc y hl hu => step_add m c n h acc y (by omega) (by omega)) 14 le_rfl h y

/-- The tile as its last point leaves it, before the norm. -/
theorem sum_apply (c : Dev nD) (q : ℕ) (h : 16 * q + 15 < cfg0.N) (a : Fin 1024) (k : Fin 1024) :
    held m c ⟨16 * q, by omega⟩ (ix2 a k) + ∑ s ∈ Finset.range 16, pointAdd m c (16 * q + s) (ix2 a k)
      = total (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
          ⟨q * 1024 + a.val, by have := lt_of_lt_of_eq h (show cfg0.N = 512 from N_0); omega⟩ k := by
  have hN := lt_of_lt_of_eq h (show cfg0.N = 512 from N_0)
  unfold total
  rw [Finset.sum_range fun s => pointAdd m c (16 * q + s) (ix2 a k)]
  refine congrArg₂ (· + ·) ((blk0 m c ⟨16 * q, by omega⟩ a k).trans ?_) (Finset.sum_congr rfl fun s _ => ?_)
  · exact congrArg (fun r => (m ((c : Thread nD τ).loc main_arg0) : FVec Ideal S32768x1024 .f32) (ix2 r k)) (Fin.ext (by show 16 * q / 16 * 1024 + a.val = q * 1024 + a.val; omega))
  · rw [pointAdd_eq m c ⟨16 * q + s.val, by have := s.isLt; omega⟩ a k]
    have he : (⟨(16 * q + s.val) % 16, Nat.mod_lt _ (by decide)⟩ : Fin 16) = s := Fin.ext (by have := s.isLt; show (16 * q + s.val) % 16 = s.val; omega)
    have hr : (16 * q + s.val) / 16 = q := by have := s.isLt; omega
    simp only [he, hr]

/-- What the kernel leaves at every index of its result. -/
theorem result_apply (c : Dev nD) (r : Fin 32768) (k : Fin 1024) :
    (G7 m c : FVec Ideal S32768x1024 .f32) (ix2 r k)
      = normed (total (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) r) (m ((c : Thread nD τ).loc main_arg6)) k := by
  have hN : cfg0.N = 512 := N_0
  have hrun : run7Of (ix2 r k) = r.val / 1024 := by
    show 1 * (r.val / 1024 - 0) + 1 * (k.val / 1024 - 0) = _
    have := k.isLt; omega
  have hq : 16 * (r.val / 1024) + 15 < cfg0.N := by have := r.isLt; omega
  have hloc : loc7Of (ix2 r k) = ix2 ⟨r.val % 1024, Nat.mod_lt _ (by decide)⟩ k := by
    funext a; apply Fin.ext
    match a with
    | ⟨0, _⟩ => rfl
    | ⟨1, _⟩ => show k.val % 1024 = k.val; exact Nat.mod_eq_of_lt k.isLt
  unfold G7
  rw [dif_pos (by rw [hrun]; exact hq), hloc]
  have e : ∀ (b b' : ℕ) (h : b + 15 < cfg0.N) (h' : b' + 15 < cfg0.N), b = b' →
      Pipeline.accAt (reset7 m c) (step7 m c) b 15 h = Pipeline.accAt (reset7 m c) (step7 m c) b' 15 h' := by
    intro b b' h h' hb; subst hb; rfl
  rw [e _ (16 * (r.val / 1024)) _ hq (by rw [hrun]), Pipeline.accAt_succ]
  have hsum : ∀ x : Fin 1024, k0_pay1 (F := Ideal) (k0_pay3 (grid0.coords ⟨16 * (r.val / 1024) + 15, hq⟩) (iblk m c 1 ⟨_, hq⟩) (iblk m c 3 ⟨_, hq⟩) (iblk m c 4 ⟨_, hq⟩) (iblk m c 2 ⟨_, hq⟩))
      (k0_pay4 (Pipeline.accAt (reset7 m c) (step7 m c) (16 * (r.val / 1024)) 14 (Nat.lt_of_succ_lt hq))) (iblk m c 5 ⟨_, hq⟩) (ix2 ⟨r.val % 1024, Nat.mod_lt _ (by decide)⟩ x)
      = total (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) r x := by
    intro x
    have hs := sum_apply m c (r.val / 1024) hq ⟨r.val % 1024, Nat.mod_lt _ (by decide)⟩ x
    rw [Finset.sum_range_succ, ← add_assoc, ← fold_apply m c (r.val / 1024) (Nat.lt_of_succ_lt hq)] at hs
    have hr : (⟨r.val / 1024 * 1024 + r.val % 1024, by have := r.isLt; omega⟩ : Fin 32768) = r := Fin.ext (by show r.val / 1024 * 1024 + r.val % 1024 = r.val; omega)
    simp only [hr] at hs
    rw [← hs, add_apply, start_apply]
    unfold pointAdd
    rw [dif_pos hq]
  unfold step7
  rw [if_neg (by omega), if_pos (by omega), norm_apply]
  unfold normed
  have h2 := Finset.sum_congr (rfl : (Finset.univ : Finset (Fin 1024)) = Finset.univ) fun x _ => congrArg₂ (· * ·) (hsum x) (hsum x)
  exact congrArg₂ (· * ·) (congrArg₂ (· * ·) (hsum k)
    (congrArg (fun z => Ideal.rsqrt (Ideal.div z (Ideal.ofBits FTy.f32 1149239296#32) + Ideal.ofBits FTy.f32 897988541#32)) h2)) (blk6 m c ⟨_, hq⟩ k)

end Cert.KernelIdeal.Moe

end
-- ==== Proof.Ref.lean ====
/- The reference's result read at an index: each expert's gated hidden layer, its down projection weighted by the
   combine weight, their sum with the residual, and the row norm. -/
module

public import proofs.«01_k».proof.Proof.Gen.ReferenceIdeal.Read
public import Idealize.ShloMosaic.Lib.Pipeline.ValueKit

@[expose] public section

set_option maxRecDepth 16384

noncomputable section

namespace Cert.ReferenceIdeal.Moe

open Cert.ReferenceIdeal Cert.ReferenceIdeal.Gen Cert.ReferenceIdeal.Read Idealize.ShloMosaic Idealize.ShloMosaic.TcCoe Idealize.SL.Sem

variable (H U : FVec Ideal S32768x1024 .f32) (C : FVec Ideal S32768x128 .f32) (Wg Wu : FVec Ideal S1x16x1024x512 .f32)
  (Wd : FVec Ideal S1x16x512x1024 .f32) (N : FVec Ideal S1024 .f32)

/-- The gate projection of a token by an expert. -/
theorem gate_apply (e : Fin 16) (r : Fin 32768) (f : Fin 512) :
    (val_main_v3 (F := Ideal) U Wg : FVec Ideal S16x32768x512 .f32) (ix3 e r f) = ∑ x : Fin 1024, Wg (ix4 0 e x f) * U (ix2 r x) := by
  pointwise [val_main_v3, val_main_v2, val_main_v1]

/-- The up projection of a token by an expert. -/
theorem up_apply (e : Fin 16) (r : Fin 32768) (f : Fin 512) :
    (val_main_v7 (F := Ideal) U Wu : FVec Ideal S16x32768x512 .f32) (ix3 e r f) = ∑ x : Fin 1024, Wu (ix4 0 e x f) * U (ix2 r x) := by
  pointwise [val_main_v7, val_main_v6, val_main_v5]

/-- The activation, as the reference writes it. -/
theorem silu_apply (j : S16x32768x512.Idx) :
    val_main_v4 (F := Ideal) U Wg j = val_main_v3 (F := Ideal) U Wg j * Ideal.div 1 (1 + Ideal.exp (-(val_main_v3 (F := Ideal) U Wg j))) := by
  simp only [val_main_v4, val_main_call0_v5, val_main_call0_v4, val_main_call0_v3, val_main_call0_v2, val_main_call0_v1, val_main_call0_v0,
    val_main_call0_cst, val_main_call0_cst_0]
  generalize val_main_v3 (F := Ideal) U Wg = X
  pointwise

/-- The combine weight, spread over the features. -/
theorem weight_apply (e : Fin 16) (r : Fin 32768) (k : Fin 1024) :
    (val_main_v13 (F := Ideal) C : FVec Ideal S16x32768x1024 .f32) (ix3 e r k) = C (ix2 r ⟨4 + e.val, by omega⟩) := by
  pointwise [val_main_v13, val_main_v10, val_main_v9, val_main_v0]

/-- The down projection of an expert's hidden layer. -/
theorem down_apply (e : Fin 16) (r : Fin 32768) (k : Fin 1024) :
    (val_main_v12 (F := Ideal) U Wg Wu Wd : FVec Ideal S16x32768x1024 .f32) (ix3 e r k)
      = ∑ f : Fin 512, (val_main_v8 (F := Ideal) U Wg Wu : FVec Ideal S16x32768x512 .f32) (ix3 e r f) * Wd (ix4 0 e f k) := by
  simp only [val_main_v12, val_main_v11]
  generalize val_main_v8 (F := Ideal) U Wg Wu = X
  pointwise

/-- The residual plus the weighted sum over the experts. -/
theorem sum_apply (r : Fin 32768) (k : Fin 1024) :
    (val_main_v16 (F := Ideal) H U C Wg Wu Wd : FVec Ideal S32768x1024 .f32) (ix2 r k)
      = H (ix2 r k) + ∑ e : Fin 16, (val_main_v13 (F := Ideal) C : FVec Ideal S16x32768x1024 .f32) (ix3 e r k)
          * (val_main_v12 (F := Ideal) U Wg Wu Wd : FVec Ideal S16x32768x1024 .f32) (ix3 e r k) := by
  simp only [val_main_v16, val_main_v15, val_main_v14, val_main_cst]
  generalize val_main_v13 (F := Ideal) C = X
  generalize val_main_v12 (F := Ideal) U Wg Wu Wd = Y
  pointwise

/-- The result: each row of the sum, normed and scaled. -/
theorem norm_apply (r : Fin 32768) (k : Fin 1024) :
    (val_main_v29 (F := Ideal) H U C Wg Wu Wd N : FVec Ideal S32768x1024 .f32) (ix2 r k)
      = (val_main_v16 (F := Ideal) H U C Wg Wu Wd : FVec Ideal S32768x1024 .f32) (ix2 r k)
        * Ideal.rsqrt (Ideal.div (∑ x : Fin 1024, (val_main_v16 (F := Ideal) H U C Wg Wu Wd : FVec Ideal S32768x1024 .f32) (ix2 r x)
            * (val_main_v16 (F := Ideal) H U C Wg Wu Wd : FVec Ideal S32768x1024 .f32) (ix2 r x)) (Ideal.ofBits FTy.f32 1149239296#32)
          + Ideal.ofBits FTy.f32 897988541#32) * N (ix1 k) := by
  simp only [val_main_v29, val_main_v28, val_main_v27, val_main_v26, val_main_v25, val_main_v24, val_main_v23, val_main_v22, val_main_v21, val_main_v20,
    val_main_v19, val_main_v18, val_main_v17, val_main_cst_0, val_main_cst_1, val_main_cst_2]
  generalize val_main_v16 (F := Ideal) H U C Wg Wu Wd = X
  pointwise

end Cert.ReferenceIdeal.Moe

end
-- ==== Proof.Tie.lean ====
/- The two sides brought together on extended reals: the two spellings of the activation, and a combine weight moved
   across the sum over the hidden features. -/
module

public import proofs.«01_k».proof.Proof.Fold
public import proofs.«01_k».proof.Proof.Ref

@[expose] public section

set_option maxRecDepth 16384

noncomputable section

namespace Cert.Moe

open Idealize.ShloMosaic Idealize.ShloMosaic.TcCoe Idealize.SL.Sem

/-- The exponential is never negative. -/
theorem exp_nonneg (x : EReal) : 0 ≤ Ideal.exp x := by
  induction x with
  | bot => exact le_refl (0 : EReal)
  | top => exact (le_top : (0 : EReal) ≤ ⊤)
  | coe r => exact (EReal.coe_nonneg.mpr (Real.exp_pos r).le : (0 : EReal) ≤ (Real.exp r : ℝ))

/-- The activation's denominator is not zero. -/
theorem one_add_exp_ne (x : EReal) : 1 + Ideal.exp x ≠ 0 := by
  have h : (1 : EReal) ≤ 1 + Ideal.exp x := le_add_of_nonneg_right (exp_nonneg x)
  exact (lt_of_lt_of_le zero_lt_one h).ne'

/-- A gate times the logistic of it is the gate divided by one plus the exponential of its negation. -/
theorem silu_eq (x : EReal) : x * Ideal.div 1 (1 + Ideal.exp (-x)) = Ideal.div x (1 + Ideal.exp (0 - x)) := by
  have h : (0 : EReal) - x = -x := by rw [sub_eq_add_neg, zero_add]
  rw [h]
  simp only [Ideal.div, if_neg (one_add_exp_ne (-x)), one_mul]

/-- A weight that is a number and not negative distributes over a finite sum. -/
theorem weight_sum {ι : Type} (s : Finset ι) (c : EReal) (h0 : 0 ≤ c) (h1 : c ≠ ⊤) (g : ι → EReal) : c * ∑ i ∈ s, g i = ∑ i ∈ s, c * g i := by
  classical
  induction s using Finset.induction_on with
  | empty => simp
  | insert a s ha ih => rw [Finset.sum_insert ha, Finset.sum_insert ha, ← ih, EReal.left_distrib_of_nonneg_of_ne_top h0 h1]

variable (H U : FVec Ideal Cert.ReferenceIdeal.S32768x1024 .f32) (C : FVec Ideal Cert.ReferenceIdeal.S32768x128 .f32)
  (Wg Wu : FVec Ideal Cert.ReferenceIdeal.S1x16x1024x512 .f32)
  (Wd : FVec Ideal Cert.ReferenceIdeal.S1x16x512x1024 .f32) (N : FVec Ideal Cert.ReferenceIdeal.S1024 .f32)

open Cert.ReferenceIdeal.Read Cert.ReferenceIdeal.Moe Cert.KernelIdeal.Moe

/-- The reference's hidden layer is the kernel's. -/
theorem hidden_eq (e : Fin 16) (r : Fin 32768) (f : Fin 512) :
    (val_main_v8 (F := Ideal) U Wg Wu : FVec Ideal Cert.ReferenceIdeal.S16x32768x512 .f32) (ix3 e r f) = glu U Wg Wu r e f := by
  have hp : ∀ W : FVec Ideal Cert.ReferenceIdeal.S1x16x1024x512 .f32, ∑ x : Fin 1024, W (ix4 0 e x f) * U (ix2 r x) = proj U W r e f := fun W =>
    Finset.sum_congr rfl fun x _ => mul_comm (W (ix4 0 e x f) : EReal) (U (ix2 r x))
  have hg := (gate_apply U Wg e r f).trans (hp Wg)
  have hu := (up_apply U Wu e r f).trans (hp Wu)
  have hs := silu_apply U Wg (ix3 e r f)
  rw [hg, silu_eq] at hs
  exact congrArg₂ (fun a b : EReal => a * b) hs hu

/-- The reference's weighted sum and residual is the kernel's. -/
theorem total_eq (hC : ∀ (r : Fin 32768) (e : Fin 16), (0 : EReal) ≤ C (ix2 r ⟨4 + e.val, by omega⟩) ∧ (C (ix2 r ⟨4 + e.val, by omega⟩) : EReal) < ⊤)
    (r : Fin 32768) (k : Fin 1024) :
    (val_main_v16 (F := Ideal) H U C Wg Wu Wd : FVec Ideal Cert.ReferenceIdeal.S32768x1024 .f32) (ix2 r k) = total H U C Wg Wu Wd r k := by
  refine (sum_apply H U C Wg Wu Wd r k).trans (congrArg (fun z : EReal => H (ix2 r k) + z) (Finset.sum_congr rfl fun e _ => ?_))
  refine (congrArg₂ (fun a b : EReal => a * b) (weight_apply C e r k) (down_apply U Wg Wu Wd e r k)).trans ?_
  refine (weight_sum Finset.univ _ (hC r e).1 (hC r e).2.ne _).trans (Finset.sum_congr rfl fun f _ => ?_)
  refine (congrArg (fun z : EReal => C (ix2 r ⟨4 + e.val, by omega⟩) * (z * Wd (ix4 0 e f k))) (hidden_eq U Wg Wu e r f)).trans ?_
  rw [← mul_assoc, mul_comm (C (ix2 r ⟨4 + e.val, _⟩) : EReal)]

/-- The reference's result is the norm of the kernel's sum. -/
theorem reference_eq (hC : ∀ (r : Fin 32768) (e : Fin 16), (0 : EReal) ≤ C (ix2 r ⟨4 + e.val, by omega⟩) ∧ (C (ix2 r ⟨4 + e.val, by omega⟩) : EReal) < ⊤)
    (r : Fin 32768) (k : Fin 1024) :
    (val_main_v29 (F := Ideal) H U C Wg Wu Wd N : FVec Ideal Cert.ReferenceIdeal.S32768x1024 .f32) (ix2 r k)
      = normed (total H U C Wg Wu Wd r) N k := by
  refine (Cert.ReferenceIdeal.Moe.norm_apply H U C Wg Wu Wd N r k).trans ?_
  have h : (fun x : Fin 1024 => (val_main_v16 (F := Ideal) H U C Wg Wu Wd : FVec Ideal Cert.ReferenceIdeal.S32768x1024 .f32) (ix2 r x)) = total H U C Wg Wu Wd r :=
    funext fun x => total_eq H U C Wg Wu Wd hC r x
  rw [← h]
  generalize val_main_v16 (F := Ideal) H U C Wg Wu Wd = X
  rfl

end Cert.Moe

end
-- ==== Proof.Weights.lean ====
/- What the precondition says of the routing record: every combine weight is a number, and not negative. -/
module

public import proofs.«01_k».proof.Defs
public import proofs.«01_k».proof.Proof.Gen.Pre_combine_weights
public import Idealize.ShloMosaic.Lib.ReduceAll
public import Idealize.ShloMosaic.Lib.Affine
public import Idealize.ShloMosaic.Lib.WordArith
public import Idealize.ShloMosaic.Lib.Pipeline.ValueKit

@[expose] public section

set_option maxRecDepth 16384

noncomputable section

namespace Cert.Moe

open Idealize.ShloMosaic Idealize.ShloMosaic.TcCoe Idealize.SL.Sem

/-- The bits of the upper bound are plus infinity. -/
theorem upper_eq : Ideal.ofBits FTy.f32 2139095040#32 = (⊤ : EReal) := by
  simp [Ideal.ofBits, Ideal.ieee]

/-- The bits of the lower bound are zero. -/
theorem lower_eq : Ideal.ofBits FTy.f32 0#32 = (0 : EReal) := by
  simp [Ideal.ofBits, Ideal.ieee]

/-- Every combine weight is at least zero and below plus infinity. -/
theorem weights_of_pre (a0 a1 : FVec Ideal Cert.Pre_combine_weights.S32768x1024 .f32) (C : FVec Ideal Cert.Pre_combine_weights.S32768x128 .f32)
    (a3 a4 : FVec Ideal Cert.Pre_combine_weights.S1x16x1024x512 .f32) (a5 : FVec Ideal Cert.Pre_combine_weights.S1x16x512x1024 .f32)
    (a6 : FVec Ideal Cert.Pre_combine_weights.S1024 .f32)
    (h : Cert.Pre_combine_weights.fn (F := Ideal) a0 a1 C a3 a4 a5 a6 = fun _ => 1#1)
    (r : Fin 32768) (e : Fin 16) : 0 ≤ C (ix2 r ⟨4 + e.val, by omega⟩) ∧ C (ix2 r ⟨4 + e.val, by omega⟩) < ⊤ := by
  have h0 := congrFun h ix0
  dsimp only [Cert.Pre_combine_weights.fn] at h0
  have h1 := Host.reduce_andi_all _ _ _ _ _ h0 (ix2 r e)
  obtain ⟨hlo, hhi⟩ := IntOp.andi_eq_one.mp h1
  have el : extractStridedSlice Cert.Pre_combine_weights.S32768x16 ![0, 4] C Cert.Pre_combine_weights.Facts.slices_S32768x128_S32768x16_0_4 (ix2 r e)
      = C (ix2 r ⟨4 + e.val, by omega⟩) := by
    pointwise
  constructor
  · have h2 : Ideal.ofBits FTy.f32 0#32 ≤ extractStridedSlice Cert.Pre_combine_weights.S32768x16 ![0, 4] C Cert.Pre_combine_weights.Facts.slices_S32768x128_S32768x16_0_4 (ix2 r e) := by
      exact of_decide_eq_true ((WordArith.ofBool_eq_one_iff _).mp hlo)
    rw [lower_eq, el] at h2
    exact h2
  · have h2 : extractStridedSlice Cert.Pre_combine_weights.S32768x16 ![0, 4] C Cert.Pre_combine_weights.Facts.slices_S32768x128_S32768x16_0_4 (ix2 r e) < Ideal.ofBits FTy.f32 2139095040#32 := by
      exact of_decide_eq_true ((WordArith.ofBool_eq_one_iff _).mp hhi)
    rw [upper_eq, el] at h2
    exact h2

end Cert.Moe

end
-- ==== Proof.lean ====
/- The certificate: the kernel and the reference run, and on memories agreeing on the arguments whose combine weights are
   numbers and not negative, they leave the same result. The mixer call, the layer's other kernel call, runs and leaves its arguments as they were. -/
module

public import proofs.«01_k».proof.Defs
public import proofs.«01_k».proof.Proof.Gen.Kernel.Frame
public import proofs.«01_k».proof.Proof.MixerBody
public import proofs.«01_k».proof.Proof.MixerIdealBody
public import proofs.«01_k».proof.Proof.Gen.KernelIdeal.Value
public import proofs.«01_k».proof.Proof.Gen.Pre_combine_weights
public import proofs.«01_k».proof.Proof.Gen.ReferenceIdeal.Run
public import proofs.«01_k».proof.Proof.Tie
public import proofs.«01_k».proof.Proof.Weights
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference halts with its arguments unchanged. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition. -/
theorem reference_frame_pre : quiescent_ReferenceIdeal_pre_combine_weights := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave the same result. -/
theorem same_result : algebraic_KernelIdeal_ReferenceIdeal_pre_combine_weights := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  refine (h c).1.trans ((Cert.ReferenceIdeal.Read.val_main_v29_eq m' c).trans ?_)
  rw [h0, h1, h2, h3, h4, h5, h6]
  refine funext fun j => ?_
  obtain ⟨r, k, rfl⟩ : ∃ (r : Fin 32768) (k : Fin 1024), j = ix2 r k := ⟨j 0, j 1, eq_ix2 j⟩
  exact (Cert.Moe.reference_eq _ _ _ _ _ _ _ (fun r e => Cert.Moe.weights_of_pre _ _ _ _ _ _ _ (hpre c) r e) r k).trans
    (Cert.KernelIdeal.Moe.result_apply m c r k).symm

theorem claim : Cert.Claim := ⟨Cert.Kernel.Gen.facts, Cert.KernelIdeal.Gen.facts, Cert.ReferenceIdeal.Gen.facts, Cert.Mixer.Gen.facts, Cert.MixerIdeal.Gen.facts,
  Cert.Pre_combine_weights.Gen.facts,
  fun m ρ _ => Cert.Kernel.Gen.frame m ρ, fun m ρ _ => Cert.KernelIdeal.Gen.frame m ρ, fun m ρ _ => Cert.KernelIdeal.Gen.frame m ρ,
  reference_frame, reference_frame_pre, fun m ρ _ => Cert.Mixer.Body.mixer_frame m ρ, fun m ρ _ => Cert.MixerIdeal.Body.mixer_frame m ρ,
  (trivial : preserves_Kernel_KernelIdeal), same_result, (trivial : preserves_Mixer_MixerIdeal)⟩

end Cert.Proof

end
